-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S2x2048x1024 : Shape := ⟨3, ![2, 2048, 1024]⟩
abbrev S8x1024 : Shape := ⟨2, ![8, 1024]⟩
abbrev S8x1024x128 : Shape := ⟨3, ![8, 1024, 128]⟩
abbrev S8x128x1024 : Shape := ⟨3, ![8, 128, 1024]⟩
abbrev S4096x1024 : Shape := ⟨2, ![4096, 1024]⟩
abbrev S1024x8 : Shape := ⟨2, ![1024, 8]⟩
abbrev S4096x8 : Shape := ⟨2, ![4096, 8]⟩
abbrev S_ : Shape := ⟨0, ![]⟩
abbrev S4096 : Shape := ⟨1, ![4096]⟩
abbrev S4096x1 : Shape := ⟨2, ![4096, 1]⟩

class Facts : Prop where
  shapeCasts_S2x2048x1024_S4096x1024 : S2x2048x1024.ShapeCasts S4096x1024
  transposes_S8x1024_S1024x8_1_0 : S8x1024.Transposes [1, 0] S1024x8
  bcast_S_S4096x8 : S_.BroadcastsInDim S4096x8 (![] : Fin 0 → Fin S4096x8.rank)
  reducesTo_S4096x8_S4096_d1 : S4096x8.ReducesTo [1] S4096
  h_S_ : 0 < S_.numel
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  natLt_1_32 : 1 < 32
  bcast_S_S4096 : S_.BroadcastsInDim S4096 (![] : Fin 0 → Fin S4096.rank)
  dot_S4096x1024_S1024x8_S4096x8_1_0_0_1_n_n_wf : DotDims.WF S4096x1024 S1024x8 S4096x8 [1] [0] [0] [1] [] []

variable [Facts]

def dot_S4096x1024_S1024x8_S4096x8_1_0_0_1_n_n : DotDims S4096x1024 S1024x8 S4096x8 where
  lhsContracting := [1]
  rhsContracting := [0]
  lhsNonContracting := [0]
  rhsNonContracting := [1]
  lhsBatch := []
  rhsBatch := []
  wf := dot_S4096x1024_S1024x8_S4096x8_1_0_0_1_n_n_wf
def fn_where {F : FTy → Type} [FloatOps F] (arg0 : IVec S4096x8 1) (arg1 : FVec F S_ .f32) (arg2 : FVec F S4096x8 .f32) : FVec F S4096x8 .f32 :=
  let v0 : FVec F S_ .f32 := id arg1
  let v1 : FVec F S4096x8 .f32 := broadcastInDim S4096x8 ![] bcast_S_S4096x8 v0
  let v2 : FVec F S4096x8 .f32 := select arg0 v1 arg2
  v2

def fn_part1 {F : FTy → Type} [FloatOps F] (main_v8 : FVec F S4096x8 .f32) (main_v16 : IVec S4096 1) (main_v18 : IVec S4096x8 1) : IVec S4096 1 :=
  let main_cst_3 : FVec F S_ .f32 := constant S_ .f32 0xFF800000#32
  let main_v19 : FVec F S4096x8 .f32 := fn_where (F := F) main_v18 main_cst_3 main_v8
  let main_cst_4 : FVec F S_ .f32 := constant S_ .f32 0xFF800000#32
  let main_v20 : FVec F S4096 .f32 := (fun x v => Host.reduce FloatOps.maximumf x v reducesTo_S4096x8_S4096_d1 h_S_) main_v19 main_cst_4
  let main_v21 : FVec F S4096x1 .f32 := broadcastInDim S4096x1 ![0] bcast_S4096_S4096x1_0 main_v20
  let main_v22 : FVec F S4096x8 .f32 := broadcastInDim S4096x8 ![0, 1] bcast_S4096x1_S4096x8_0_1 main_v21
  let main_v23 : IVec S4096x8 1 := cmpf .oeq main_v19 main_v22
  let main_v24 : IVec S4096x8 32 := (extui 32 · natLt_1_32) main_v23
  let main_c_5 : IVec S_ 32 := constantI S_ 32 0#32
  let main_v25 : IVec S4096 32 := (fun x v => Host.reduce IntOp.addi x v reducesTo_S4096x8_S4096_d1 h_S_) main_v24 main_c_5
  let main_c_6 : IVec S_ 32 := constantI S_ 32 1#32
  let main_v26 : IVec S4096 32 := broadcastInDim S4096 ![] bcast_S_S4096 main_c_6
  let main_v27 : IVec S4096 1 := cmpi .eq main_v25 main_v26
  let main_v28 : IVec S4096 1 := andi main_v16 main_v27
  main_v28

def fn {F : FTy → Type} [FloatOps F] (main_arg0 : FVec F S2x2048x1024 .f32) (main_arg1 : FVec F S8x1024 .f32) (main_arg2 : FVec F S8x1024x128 .f32) (main_arg3 : FVec F S8x128x1024 .f32) : IVec S4096 1 :=
  let main_v0 : FVec F S4096x1024 .f32 := shapeCast S4096x1024 main_arg0 shapeCasts_S2x2048x1024_S4096x1024
  let main_v1 : FVec F S1024x8 .f32 := (transpose S1024x8 [1, 0] · transposes_S8x1024_S1024x8_1_0) main_arg1
  let main_v2 : FVec F S4096x8 .f32 := (fun l r => Host.dotGeneral dot_S4096x1024_S1024x8_S4096x8_1_0_0_1_n_n none l r) main_v0 main_v1
  let main_v3 : FVec F S4096x8 .f32 := Host.negf main_v2
  let main_v4 : FVec F S4096x8 .f32 := Host.exp main_v3
  let main_cst : FVec F S_ .f32 := constant S_ .f32 0x3F800000#32
  let main_v5 : FVec F S4096x8 .f32 := broadcastInDim S4096x8 ![] bcast_S_S4096x8 main_cst
  let main_v6 : FVec F S4096x8 .f32 := addf main_v5 main_v4
  let main_cst_0 : FVec F S_ .f32 := constant S_ .f32 0x3F800000#32
  let main_v7 : FVec F S4096x8 .f32 := broadcastInDim S4096x8 ![] bcast_S_S4096x8 main_cst_0
  let main_v8 : FVec F S4096x8 .f32 := Host.divf main_v7 main_v6
  let main_cst_1 : FVec F S_ .f32 := constant S_ .f32 0xFF800000#32
  let main_v9 : FVec F S4096 .f32 := (fun x v => Host.reduce FloatOps.maximumf x v reducesTo_S4096x8_S4096_d1 h_S_) main_v8 main_cst_1
  let main_v10 : FVec F S4096x1 .f32 := broadcastInDim S4096x1 ![0] bcast_S4096_S4096x1_0 main_v9
  let main_v11 : FVec F S4096x8 .f32 := broadcastInDim S4096x8 ![0, 1] bcast_S4096x1_S4096x8_0_1 main_v10
  let main_v12 : IVec S4096x8 1 := cmpf .oeq main_v8 main_v11
  let main_v13 : IVec S4096x8 32 := (extui 32 · natLt_1_32) main_v12
  let main_c : IVec S_ 32 := constantI S_ 32 0#32
  let main_v14 : IVec S4096 32 := (fun x v => Host.reduce IntOp.addi x v reducesTo_S4096x8_S4096_d1 h_S_) main_v13 main_c
  let main_c_2 : IVec S_ 32 := constantI S_ 32 1#32
  let main_v15 : IVec S4096 32 := broadcastInDim S4096 ![] bcast_S_S4096 main_c_2
  let main_v16 : IVec S4096 1 := cmpi .eq main_v14 main_v15
  let main_v17 : FVec F S4096x8 .f32 := broadcastInDim S4096x8 ![0, 1] bcast_S4096x1_S4096x8_0_1 main_v10
  let main_v18 : IVec S4096x8 1 := cmpf .oeq main_v8 main_v17
  fn_part1 (F := F) main_v8 main_v16 main_v18
-- ==== Kernel.lean ====
abbrev S2x2048x1024 : Shape := ⟨3, ![2, 2048, 1024]⟩
abbrev S8x1024 : Shape := ⟨2, ![8, 1024]⟩
abbrev S8x1024x128 : Shape := ⟨3, ![8, 1024, 128]⟩
abbrev S8x128x1024 : Shape := ⟨3, ![8, 128, 1024]⟩
abbrev S4096x1024 : Shape := ⟨2, ![4096, 1024]⟩
abbrev S1024x8 : Shape := ⟨2, ![1024, 8]⟩
abbrev S1024x1024 : Shape := ⟨2, ![1024, 1024]⟩
abbrev S512x1024 : Shape := ⟨2, ![512, 1024]⟩
abbrev S1x1024x128 : Shape := ⟨3, ![1, 1024, 128]⟩
abbrev S1024x128 : Shape := ⟨2, ![1024, 128]⟩
abbrev S512x8 : Shape := ⟨2, ![512, 8]⟩
abbrev S512 : Shape := ⟨1, ![512]⟩
abbrev S512x1 : Shape := ⟨2, ![512, 1]⟩
abbrev S512x8x128 : Shape := ⟨3, ![512, 8, 128]⟩
abbrev S512x8x1 : Shape := ⟨3, ![512, 8, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S8x1024x128, .f32⟩
  | .hbm, ⟨3, _⟩ => ⟨S8x128x1024, .f32⟩
  | .hbm, ⟨4, _⟩ => ⟨S4096x1024, .f32⟩
  | .hbm, ⟨5, _⟩ => ⟨S1024x8, .f32⟩
  | .hbm, ⟨6, _⟩ => ⟨S1024x1024, .f32⟩
  | .hbm, ⟨7, _⟩ => ⟨S4096x1024, .f32⟩
  | .hbm, ⟨8, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S8x1024x128, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x2048x1024 : Shape := ⟨3, ![2, 2048, 1024]⟩
abbrev S8x1024 : Shape := ⟨2, ![8, 1024]⟩
abbrev S8x1024x128 : Shape := ⟨3, ![8, 1024, 128]⟩
abbrev S8x128x1024 : Shape := ⟨3, ![8, 128, 1024]⟩
abbrev S4096x1024 : Shape := ⟨2, ![4096, 1024]⟩
abbrev S1024x8 : Shape := ⟨2, ![1024, 8]⟩
abbrev S4096x8 : Shape := ⟨2, ![4096, 8]⟩
abbrev S_ : Shape := ⟨0, ![]⟩
abbrev S4096x2 : Shape := ⟨2, ![4096, 2]⟩
abbrev S4096 : Shape := ⟨1, ![4096]⟩
abbrev S4096x1 : Shape := ⟨2, ![4096, 1]⟩
abbrev S4096x2x1 : Shape := ⟨3, ![4096, 2, 1]⟩
abbrev S4096x2x2 : Shape := ⟨3, ![4096, 2, 2]⟩
abbrev S4096x8x128 : Shape := ⟨3, ![4096, 8, 128]⟩
abbrev S4096x8x1 : Shape := ⟨3, ![4096, 8, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S8x1024x128, .f32⟩
  | .hbm, ⟨3, _⟩ => ⟨S8x128x1024, .f32⟩
  | .hbm, ⟨4, _⟩ => ⟨S4096x1024, .f32⟩
  | .hbm, ⟨5, _⟩ => ⟨S1024x8, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S4096x2, .f32⟩
  | .hbm, ⟨16, _⟩ => ⟨S4096x2, .i32⟩
  | .hbm, ⟨17, _⟩ => ⟨S_, .f32⟩
  | .hbm, ⟨18, _⟩ => ⟨S4096x8, .f32⟩
  | .hbm, ⟨19, _⟩ => ⟨S4096, .i32⟩
  | .hbm, ⟨20, _⟩ => ⟨S4096x1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S_, .i32⟩
  | .hbm, ⟨25, _⟩ => ⟨S4096x1, .i32⟩
  | .hbm, ⟨26, _⟩ => ⟨S4096x1, .i32⟩
  | .hbm, ⟨27, _⟩ => ⟨S4096x1, .i32⟩
  | .hbm, ⟨28, _⟩ => ⟨S_, .i32⟩
  | .hbm, ⟨29, _⟩ => ⟨S4096x2, .i32⟩
  | .hbm, ⟨30, _⟩ => ⟨S4096x2, .i1⟩
  | .hbm, ⟨31, _⟩ => ⟨S_, .i32⟩
  | .hbm, ⟨32, _⟩ => ⟨S4096x2, .i32⟩
  | .hbm, ⟨33, _⟩ => ⟨S4096x2, .i32⟩
  | .hbm, ⟨34, _⟩ => ⟨S4096x2, .i32⟩
  | .hbm, ⟨35, _⟩ => ⟨S4096x2, .i32⟩
  | .hbm, ⟨36, _⟩ => ⟨S4096x2x1, .i32⟩
  | .hbm, ⟨37, _⟩ => ⟨S4096x2x1, .i32⟩
  | .hbm, ⟨38, _⟩ => ⟨S4096x2x2, .i32⟩
  | .hbm, ⟨39, _⟩ => ⟨S4096x8, .f32⟩
  | .hbm, ⟨40, _⟩ => ⟨S4096x8x128, .f32⟩
  | .hbm, ⟨41, _⟩ => ⟨S_, .f32⟩
  | .hbm, ⟨42, _⟩ => ⟨S4096x8x128, .f32⟩
  | .hbm, ⟨43, _⟩ => ⟨S4096x8x128, .f32⟩
  | .hbm, ⟨44, _⟩ => ⟨S4096x8x1, .f32⟩
  | .hbm, ⟨45, _⟩ => ⟨S4096x8x128, .f32⟩
  | .hbm, ⟨46, _⟩ => ⟨S4096x8x128, .f32⟩
  | .hbm, ⟨47, _⟩ => ⟨S4096x1024, .f32⟩
  | .hbm, ⟨48, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_values : Ref sig .tc := ⟨.hbm, 15, rfl⟩
abbrev main_indices : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.Frames.lean ====
/- The claims that say each program runs to its end, leaves its argument arrays as they were and every semaphore
   counter at zero: the kernel as written, the same kernel read over the extended reals, and the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_no_tie
public import Idealize.ShloMosaic.Lib.Claim

@[expose] public section

noncomputable section

namespace Cert.Proof

open Idealize.ShloMosaic Idealize.ShloMosaic.TcCoe Idealize.SL.Sem

/-- The kernel, from any memory, ends with its arguments unchanged and every counter at zero. -/
theorem frame_kernel : Cert.quiescent_Kernel (hKernel := Cert.Kernel.Gen.facts) :=
  fun m ρ _ => Cert.Kernel.Gen.frame m ρ

/-- The same from a memory whose arguments have no tied scores. -/
theorem frame_kernel_no_tie :
    Cert.quiescent_Kernel_pre_no_tie (hKernel := Cert.Kernel.Gen.facts) (hPre_no_tie := Cert.Pre_no_tie.Gen.facts) :=
  fun m ρ _ => Cert.Kernel.Gen.frame m ρ

/-- The kernel over the extended reals ends with its arguments unchanged and every counter at zero. -/
theorem frame_ideal :
    Cert.quiescent_KernelIdeal (hKernelIdeal := Cert.KernelIdeal.Gen.facts) (hPre_no_tie := Cert.Pre_no_tie.Gen.facts) :=
  fun m ρ _ => Cert.KernelIdeal.Gen.frame m ρ

/-- The reference over the extended reals ends with its arguments unchanged and every counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The same from a memory whose arguments have no tied scores. -/
theorem frame_reference_no_tie :
    Cert.quiescent_ReferenceIdeal_pre_no_tie (hReferenceIdeal := Cert.ReferenceIdeal.Gen.facts)
      (hPre_no_tie := Cert.Pre_no_tie.Gen.facts) :=
  fun m ρ _ => frame_reference m ρ trivial

end Cert.Proof

end
-- ==== Proof.Top2.lean ====
module

public import Idealize.ShloMosaic.Lib.SortFacts
public import Idealize.ShloMosaic.Lib.Pointwise

@[expose] public section

set_option maxRecDepth 16384

noncomputable section

namespace Cert.Proof

open Idealize.ShloMosaic

/-! # The two greatest of several scores

A stable descending sort puts the first greatest score first; with that one masked by `⊥` the first greatest
score is the sort's second. So two maximum searches and a sort choose the same two places. -/

/-- Place `k` holds the greatest score, and no earlier place holds it. -/
def FirstMax {n : ℕ} (s : Fin n → EReal) (k : Fin n) : Prop := ∀ e, s e ≤ s k ∧ (e < k → s e < s k)

/-- There is at most one such place. -/
theorem FirstMax.unique {n : ℕ} {s : Fin n → EReal} {a b : Fin n} (ha : FirstMax s a) (hb : FirstMax s b) : a = b := by
  rcases lt_trichotomy a b with h | h | h
  · exact absurd ((hb a).2 h) (not_lt.mpr (ha b).1)
  · exact h
  · exact absurd ((ha b).2 h) (not_lt.mpr (hb a).1)

/-- Place `a` comes before `b` in the descending order: its score is greater, or the scores are equal and `a` is earlier. -/
def ahead {n : ℕ} (s : Fin n → EReal) (a b : Fin n) : Bool := decide (s b < s a ∨ (s b = s a ∧ a < b))

theorem ahead_eq_false {n : ℕ} (s : Fin n → EReal) (a b : Fin n) :
    ahead s a b = false ↔ s a ≤ s b ∧ (s b = s a → b ≤ a) := by
  unfold ahead
  rw [decide_eq_false_iff_not, not_or, not_and, not_lt, not_lt]

/-- The place of the `i`-th greatest score, equal scores in the order of their places. -/
def pick {n : ℕ} (s : Fin n → EReal) (i : Fin n) : Fin n := sortedFrom (fun a b => decide (s b < s a)) i

/-- A stable sort of places in increasing order by the score alone is the sort by the score and then the place. -/
theorem stableSort_ahead {n : ℕ} (s : Fin n → EReal) (l : List (Fin n)) (hl : l.Pairwise (· < ·)) :
    stableSort (fun a b => decide (s b < s a)) l = stableSort (ahead s) l := by
  induction l with
  | nil => rfl
  | cons a l ih =>
    rw [List.pairwise_cons] at hl
    unfold stableSort
    rw [ih hl.2]
    refine insertBefore_congr _ _ a _ fun b hb => ?_
    have hab : a < b := hl.1 b ((perm_stableSort (ahead s) l).mem_iff.mp hb)
    unfold ahead
    exact decide_eq_decide.mpr ⟨Or.inl, fun h => h.elim id fun h' => absurd h'.2 (not_lt.mpr hab.le)⟩

/-- So the `i`-th place is the `i`-th of the sort by score and place. -/
theorem pick_eq {n : ℕ} (s : Fin n → EReal) : pick s = sortedFrom (ahead s) := by
  funext i
  unfold pick sortedFrom
  have e : sortPositions n (fun a b => decide (s b < s a)) = sortPositions n (ahead s) :=
    stableSort_ahead s (List.finRange n) (List.pairwise_lt_finRange n)
  rw [List.get_of_eq e]
  rfl

/-- A later place of the sort is not ahead of an earlier one. -/
theorem pick_order {n : ℕ} (s : Fin n → EReal) (i j : Fin n) (hij : i < j) : ahead s (pick s j) (pick s i) = false := by
  rw [pick_eq]
  refine sortedFrom_noInversion (ahead s) (ahead s) (fun a b h => ?_) (fun a b h => h) (fun a b c hab hbc => ?_) i j hij
  · rw [ahead_eq_false]
    unfold ahead at h
    rcases of_decide_eq_true h with h | h
    · exact ⟨h.le, fun e => absurd (e ▸ h) (lt_irrefl _)⟩
    · exact ⟨h.1.le, fun _ => h.2.le⟩
  · rw [ahead_eq_false] at hab hbc ⊢
    refine ⟨hab.1.trans hbc.1, fun e => ?_⟩
    have e1 : s a = s b := le_antisymm hab.1 (hbc.1.trans e.le)
    exact (hbc.2 (e.trans e1)).trans (hab.2 e1.symm)

theorem pick_injective {n : ℕ} (s : Fin n → EReal) : Function.Injective (pick s) := sortedFrom_injective _

theorem pick_surjective {n : ℕ} (s : Fin n → EReal) : Function.Surjective (pick s) := sortedFrom_surjective _

/-- The sort's first place holds the first greatest score. -/
theorem pick_zero (s : Fin 8 → EReal) : FirstMax s (pick s 0) := by
  intro e
  obtain ⟨j, rfl⟩ := pick_surjective s e
  rcases Fin.eq_zero_or_eq_succ j with rfl | ⟨i, rfl⟩
  · exact ⟨le_rfl, fun h => absurd h (lt_irrefl _)⟩
  · have h := (ahead_eq_false s _ _).mp (pick_order s 0 i.succ (Fin.succ_pos i))
    exact ⟨h.1, fun hlt => lt_of_le_of_ne h.1 fun e => absurd hlt (not_lt.mpr (h.2 e.symm))⟩

/-- The scores with the first place's replaced by `⊥`. -/
def masked (s : Fin 8 → EReal) (k : Fin 8) : Fin 8 → EReal := fun e => if e = k then ⊥ else s e

/-- With the first place masked, the sort's second place holds the first greatest score. -/
theorem pick_one (s : Fin 8 → EReal) (hs : ∀ e, s e ≠ ⊥) : FirstMax (masked s (pick s 0)) (pick s 1) := by
  have h10 : pick s 1 ≠ pick s 0 := fun h => absurd (pick_injective s h) (by decide)
  intro e
  unfold masked
  rw [if_neg h10]
  obtain ⟨j, rfl⟩ := pick_surjective s e
  by_cases h0 : j = 0
  · subst h0
    rw [if_pos rfl]
    exact ⟨bot_le, fun _ => bot_lt_iff_ne_bot.mpr (hs _)⟩
  · rw [if_neg fun h => h0 (pick_injective s h)]
    by_cases h1 : j = 1
    · subst h1
      exact ⟨le_rfl, fun h => absurd h (lt_irrefl _)⟩
    · have hj : (1 : Fin 8) < j := by
        rw [Fin.lt_def]
        have a0 : j.val ≠ 0 := fun h => h0 (Fin.ext h)
        have a1 : j.val ≠ 1 := fun h => h1 (Fin.ext h)
        show 1 < j.val
        omega
      have h := (ahead_eq_false s _ _).mp (pick_order s 1 j hj)
      exact ⟨h.1, fun hlt => lt_of_le_of_ne h.1 fun e => absurd hlt (not_lt.mpr (h.2 e.symm))⟩

/-- The gate: the two greatest scores stay, the others become zero. -/
def gate (s : Fin 8 → EReal) (e : Fin 8) : EReal := if e = pick s 0 ∨ e = pick s 1 then s e else 0

/-- Membership in a filtered set, however its predicate is decided. -/
theorem mem_filter_any {α : Type} {p : α → Prop} {inst : DecidablePred p} {u : Finset α} {a : α} :
    a ∈ @Finset.filter α p inst u ↔ a ∈ u ∧ p a := Finset.mem_filter

/-- The kernel's maximum search along the second axis, at a row where place `k` holds the first greatest score. -/
theorem reduceIndex_row {T : ℕ} {t : Shape} (h : (⟨2, ![T, 8]⟩ : Shape).Reduces [1] t) (x : (⟨2, ![T, 8]⟩ : Shape).Idx → EReal)
    (j : t.Idx) (r : Fin T) (hr : (j ⟨0, h.lt_r2_a1_0⟩).val = r.val) (k : Fin 8) (hk : FirstMax (fun e => x (ix2 r e)) k) :
    Ideal.reduceIndex .argMax 1 h x j = BitVec.ofNat 32 k.val := by
  classical
  have hfib : ∀ i : (⟨2, ![T, 8]⟩ : Shape).Idx, h.drop i = j ↔ ∃ e : Fin 8, ix2 r e = i := by
    intro i
    rw [h.fiber_r2_a1 j i]
    have e0 : (⟨(j ⟨0, h.lt_r2_a1_0⟩).val, Shape.coordLt (j ⟨0, h.lt_r2_a1_0⟩) h.size_r2_a1_0⟩ : Fin T) = r := Fin.ext hr
    rw [e0]
  unfold Ideal.reduceIndex
  dsimp only
  refine congrArg (BitVec.ofNat 32) ?_
  have hmem : ∀ i : (⟨2, ![T, 8]⟩ : Shape).Idx, i ∈ (Finset.univ.filter fun i => h.drop i = j) ↔ ∃ e : Fin 8, ix2 r e = i := by
    intro i
    rw [Finset.mem_filter]
    exact ⟨fun a => (hfib i).mp a.2, fun a => ⟨Finset.mem_univ _, (hfib i).mpr a⟩⟩
  rw [show (_ : Finset ℕ).min = ((k.val : ℕ) : WithTop ℕ) from ?_]
  · rfl
  refine le_antisymm (Finset.min_le ?_) (Finset.le_min ?_)
  · rw [Finset.mem_image]
    refine ⟨ix2 r k, ?_, rfl⟩
    refine mem_filter_any.mpr ⟨(hmem _).mpr ⟨k, rfl⟩, fun i hi => ?_⟩
    obtain ⟨e, rfl⟩ := (hmem _).mp hi
    rw [if_pos rfl]
    exact not_lt.mpr (hk e).1
  · intro b hb
    rw [Finset.mem_image] at hb
    obtain ⟨i, hi, rfl⟩ := hb
    have hi' := mem_filter_any.mp hi
    obtain ⟨e, rfl⟩ := (hmem _).mp hi'.1
    have h1 := hi'.2 (ix2 r k) ((hmem _).mpr ⟨k, rfl⟩)
    rw [if_pos rfl] at h1
    refine WithTop.coe_le_coe.mpr ?_
    show k.val ≤ e.val
    by_contra hlt
    exact h1 ((hk e).2 (Fin.lt_def.mpr (by omega)))

/-- Two places are one exactly when their index words are. -/
theorem ofNat_eq_iff (a b : Fin 8) : BitVec.ofNat 32 a.val = BitVec.ofNat 32 b.val ↔ a = b := by
  constructor
  · intro h
    have := congrArg BitVec.toNat h
    rw [BitVec.toNat_ofNat, BitVec.toNat_ofNat] at this
    exact Fin.ext (by omega)
  · rintro rfl; rfl

/-- The word comparison of two places, as a truth bit. -/
theorem cmpi_ofNat (a b : Fin 8) : IntOp.cmpi .eq (BitVec.ofNat 32 a.val) (BitVec.ofNat 32 b.val) = BitVec.ofBool (decide (a = b)) := by
  unfold IntOp.cmpi
  show BitVec.ofBool _ = _
  congr 1
  rw [← decide_eq_decide.mpr (ofNat_eq_iff a b)]
  rfl

/-- A choice under the disjunction of two truth bits. -/
theorem select_or {α : Type} (p q : Prop) [Decidable p] [Decidable q] (x y : α) :
    Scalar.select (IntOp.ori (BitVec.ofBool (decide p)) (BitVec.ofBool (decide q))) x y = if p ∨ q then x else y := by
  by_cases hp : p <;> by_cases hq : q <;> simp [hp, hq, Scalar.select, IntOp.ori]

/-- The logistic function is nowhere `⊥`. -/
theorem logistic_ne_bot (a : EReal) : Ideal.logistic a ≠ ⊥ := by
  induction a using EReal.rec with
  | bot => rw [Ideal.logistic_bot]; exact EReal.zero_ne_bot
  | coe r => rw [Ideal.logistic_coe]; exact EReal.coe_ne_bot _
  | top => rw [Ideal.logistic_top]; exact EReal.coe_ne_bot _

/-- The scores of a row `x` of tokens under the expert selectors `E`. -/
def scores (x : Fin 1024 → EReal) (E : Fin 8 → Fin 1024 → EReal) : Fin 8 → EReal :=
  fun e => Ideal.logistic (∑ d, x d * E e d)

/-- One output of the layer: over the experts and their hidden units, the rectified product of the token `x` with the
    unit's key, times the gate of the expert, times the unit's value `V`. -/
def layerAt (x : Fin 1024 → EReal) (E : Fin 8 → Fin 1024 → EReal) (K : Fin 8 → Fin 1024 → Fin 128 → EReal)
    (V : Fin 8 → Fin 128 → EReal) : EReal :=
  ∑ e, ∑ f, max (∑ d, x d * K e d f) 0 * gate (scores x E) e * V e f

/-- The layer on four argument arrays: row `n` of the sequence of all tokens, output column `v`. -/
def layer (A0 : (⟨3, ![2, 2048, 1024]⟩ : Shape).Idx → EReal) (A1 : (⟨2, ![8, 1024]⟩ : Shape).Idx → EReal)
    (A2 : (⟨3, ![8, 1024, 128]⟩ : Shape).Idx → EReal) (A3 : (⟨3, ![8, 128, 1024]⟩ : Shape).Idx → EReal) :
    (⟨2, ![4096, 1024]⟩ : Shape).Idx → EReal := fun i =>
  layerAt (fun d => A0 (ix3 ⟨(i 0).val / 2048, by have h : (i 0).val < 4096 := (i 0).isLt; omega⟩ ⟨(i 0).val % 2048, by omega⟩ d))
    (fun e d => A1 (ix2 e d)) (fun e d f => A2 (ix3 e d f)) (fun e f => A3 (ix3 e f (i 1)))

end Cert.Proof

end
-- ==== Proof.Tile.lean ====
module

public import proofs.«01_k».proof.Proof.Gen.KernelIdeal.Frame
public import proofs.«01_k».proof.Proof.Top2
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen

/-! # The body's output block, entry by entry -/

/-- The pattern of negative infinity denotes `⊥`. -/
theorem ofBits_neg_inf : Ideal.ofBits FTy.f32 4286578688#32 = ⊥ := by
  simp [Ideal.ofBits, Ideal.ieee]

/-- The first maximum search over a row of scores finds the place of the greatest. -/
theorem search_first (L : FVec Ideal S512x8 .f32) (r : Fin 512) :
    reduceIndex ArgKind.argMax 1 S512 L reduces_S512x8_S512 (ix1 r)
      = BitVec.ofNat 32 (pick (fun e => L (ix2 r e)) 0).val :=
  reduceIndex_row reduces_S512x8_S512 L (ix1 r) r rfl _ (pick_zero _)

/-- The second search, over the row with the first found place at negative infinity, finds the next. -/
theorem search_second (L : FVec Ideal S512x8 .f32) (r : Fin 512) (hL : ∀ e, L (ix2 r e) ≠ (⊥ : EReal)) :
    reduceIndex ArgKind.argMax 1 S512
        (select
          (cmpi CmpIPredicate.eq (iota Kind.tc S512x8 32 [1] iota_S512x8_d1_w32)
            (broadcastTo S512x8
              (shapeCast S512x1 (reduceIndex ArgKind.argMax 1 S512 L reduces_S512x8_S512) shapeCasts_S512_S512x1)
              broadcasts_S512x1_S512x8))
          (broadcast S512x8 (Ideal.ofBits FTy.f32 4286578688#32)) L)
        reduces_S512x8_S512 (ix1 r)
      = BitVec.ofNat 32 (pick (fun e => L (ix2 r e)) 1).val := by
  refine reduceIndex_row reduces_S512x8_S512 _ (ix1 r) r rfl _ ?_
  have h := pick_one (fun e => L (ix2 r e)) hL
  refine (congrArg (fun s => FirstMax s (pick (fun e => L (ix2 r e)) 1)) ?_).mpr h
  funext e
  unfold masked
  pointwise
  rw [search_first, cmpi_ofNat, ofBits_neg_inf]
  by_cases he : e = pick (fun e => L (ix2 r e)) 0 <;> simp [he, Scalar.select]

/-- The body's output at row `r` and column `v`: over all `1024` hidden units, the rectified product with the unit's
    key column, times the gate of the unit's expert, times the unit's value. -/
theorem tile_at (x : Vec Ideal S512x1024 .f32) (st : Vec Ideal S1024x8 .f32) (kf vf : Vec Ideal S1024x1024 .f32)
    (r : Fin 512) (v : Fin 1024) :
    k0_pay4 (F := Ideal) x st kf vf (ix2 r v)
      = ∑ q : Fin 1024, max (∑ d : Fin 1024, x (ix2 r d) * kf (ix2 d q)) 0
          * gate (scores (fun d => x (ix2 r d)) fun e d => st (ix2 d e)) ⟨q.val / 128, by omega⟩ * vf (ix2 q v) := by
  have hs : (fun e => (logistic (F := Ideal) (φ := .f32)
      (Ideal.matmul dot_S512x1024_S1024x8_S512x8_1_0_0_1_n_n x st (constant (F := Ideal) S512x8 FTy.f32 0#32))) (ix2 r e)) = scores (fun d => x (ix2 r d)) fun e d => st (ix2 d e) := by
    funext e
    unfold scores
    pointwise
  have hb : ∀ e, (logistic (F := Ideal) (φ := .f32)
      (Ideal.matmul dot_S512x1024_S1024x8_S512x8_1_0_0_1_n_n x st (constant (F := Ideal) S512x8 FTy.f32 0#32))) (ix2 r e) ≠ (⊥ : EReal) := fun e => logistic_ne_bot _
  pointwise [k0_pay4]
  refine Finset.sum_congr rfl fun q _ => ?_
  rw [search_second _ r hb, search_first, hs]
  have hq : q.val / 128 < 8 := by omega
  have c (k : Fin 8) := cmpi_ofNat ⟨q.val / 128, hq⟩ k
  dsimp only at c
  rw [c, c, select_or]
  unfold gate
  split
  · rfl
  · rw [mul_zero, zero_mul]

end Cert.Proof

end
-- ==== Proof.KernelBlock.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ)

/-- The experts' key matrices side by side: column `128 e + f` is column `f` of expert `e`. -/
def flatKeys (k : Vec Ideal S8x1024x128 .f32) : Vec Ideal S1024x1024 .f32 := fun i =>
  k (ix3 ⟨(i 1).val / 128, by have h : (i 1).val < 1024 := (i 1).isLt; omega⟩ (i 0) ⟨(i 1).val % 128, Nat.mod_lt _ (by decide)⟩)

/-- An entry of expert `e`'s keys sits in the flat matrix at its own row and the column moved by `128 e`. -/
theorem flatKeys_piece (k : Vec Ideal S8x1024x128 .f32) (e : Fin 8) (y : S1024x1024.Idx) (x : S1024x128.Idx)
    (h0 : (y 0).val = (x 0).val) (h1 : (y 1).val = 128 * e.val + (x 1).val) :
    k (ix3 e (x 0) (x 1)) = flatKeys k y := by
  have hx : (x 1).val < 128 := (x 1).isLt
  unfold flatKeys
  refine congrArg k ?_
  refine congr (congr (congrArg ix3 (Fin.ext ?_)) (Fin.ext ?_)) (Fin.ext ?_)
  · show e.val = (y 1).val / 128
    omega
  · exact h0.symm
  · show (x 1).val = (y 1).val % 128
    omega

/-- What the first grid point leaves in the scratch: the flat key matrix of its block of keys. -/
theorem scratch_first (c : Dev nD) (t : Fin cfg0.N) (ht : t.val % 8 = 0) :
    (outsAt0 m c t.val t.isLt).2 = flatKeys (iblk m c 2 t) := by
  rw [outsAt0_A m c t ht]
  dsimp only
  frame_out
  funext y
  canon_tiles x h
  all_goals
    unfold_payloads
    pointwise
    refine flatKeys_piece _ _ y x h0 (h1.trans ?_)
    first
      | exact congrArg (· + (x 1).val) rfl
      | exact (Nat.zero_add _).symm

/-- What the first grid point writes to the output block. -/
theorem out_first (c : Dev nD) (t : Fin cfg0.N) (ht : t.val % 8 = 0) :
    (outsAt0 m c t.val t.isLt).1 = k0_pay4 (iblk m c 0 t) (iblk m c 1 t) (flatKeys (iblk m c 2 t)) (iblk m c 3 t) := by
  rw [outsAt0_A m c t ht]
  dsimp only
  frame_out
  refine congrArg (fun kf => k0_pay4 (iblk m c 0 t) (iblk m c 1 t) kf (iblk m c 3 t)) ?_
  rw [View.readCov_eq_canon']
  funext y
  have hy : (Rect.unit (![0, 0] : Fin 2 → ℕ) S1024x1024.size (by decide)).toLoadRect.idx y = y := by
    funext a
    fin_cases a <;> exact Fin.ext (by simp [LoadRect.idx, Rect.toLoadRect, Rect.unit])
  refine (congrArg _ hy).trans ?_
  canon_tiles x h
  all_goals
    unfold_payloads
    pointwise
    refine flatKeys_piece _ _ y x h0 (h1.trans ?_)
    first
      | exact congrArg (· + (x 1).val) rfl
      | exact (Nat.zero_add _).symm

/-- What a later grid point writes to the output block, over the scratch the point before left. -/
theorem out_later (c : Dev nD) (t : Fin cfg0.N) (ht : ¬ t.val % 8 = 0) :
    (outsAt0 m c t.val t.isLt).1 = k0_pay4 (iblk m c 0 t) (iblk m c 1 t)
      (outsAt0 m c (t.val - 1) (Nat.lt_of_le_of_lt (Nat.sub_le _ _) t.isLt)).2 (iblk m c 3 t) := by
  rw [outsAt0_B m c t ht]
  dsimp only
  frame_out
  simp only [read_unread_whole]

/-- Every grid point's block of the keys is the whole array. -/
theorem keys_block (c : Dev nD) (t : Fin cfg0.N) : iblk m c 2 t = m ((c : Thread nD τ).loc main_arg2) := by
  have idx : ∀ t : Fin grid0.N, win0_2.index t = ![0, 0, 0] := by decide +kernel
  funext j
  blk_ext [iblk, V, idx t]

/-- The scratch holds the flat key matrix after every grid point: the first builds it, the others leave it. -/
theorem scratch_at (c : Dev nD) : ∀ (n : ℕ) (hn : n < cfg0.N),
    (outsAt0 m c n hn).2 = flatKeys (m ((c : Thread nD τ).loc main_arg2))
  | 0, hn => by
    rw [← keys_block m c ⟨0, hn⟩]
    exact scratch_first m c ⟨0, hn⟩ rfl
  | n + 1, hn => by
    have h8 : n + 1 < 8 := lt_of_lt_of_eq hn N_0
    rw [outsAt0_B m c ⟨n + 1, hn⟩ (show ¬ (n + 1) % 8 = 0 by omega)]
    exact scratch_at c n (Nat.lt_of_succ_lt hn)

/-- What every grid point writes to its output block. -/
theorem out_at (c : Dev nD) (t : Fin cfg0.N) :
    (outsAt0 m c t.val t.isLt).1
      = k0_pay4 (iblk m c 0 t) (iblk m c 1 t) (flatKeys (m ((c : Thread nD τ).loc main_arg2))) (iblk m c 3 t) := by
  by_cases ht : t.val % 8 = 0
  · rw [out_first m c t ht, keys_block]
  · rw [out_later m c t ht, scratch_at]

/-- The tokens as the launch finds them: the argument's rows in one sequence. -/
theorem V_tokens (c : Dev nD) : V m c main_call0_v0
    = shapeCast S4096x1024 (m ((c : Thread nD τ).loc main_arg0)) shapeCasts_S2x2048x1024_S4096x1024 := by
  show StableHlo.after (hostOps0 ++ []) _ _ = _
  rw [List.append_nil]
  simp only [hostOps0, StableHlo.TRef.reshape, StableHlo.TRef.unary, StableHlo.TRef.toBuf, StableHlo.TRef.ofBuf, cast_eq]
  after_results_simp <;> rfl

/-- The selectors as the launch finds them: the argument transposed. -/
theorem V_selectors (c : Dev nD) : V m c main_call0_v1
    = transpose S1024x8 [1, 0] (m ((c : Thread nD τ).loc main_arg1)) transposes_S8x1024_S1024x8_1_0 := by
  show StableHlo.after (hostOps0 ++ []) _ _ = _
  rw [List.append_nil]
  simp only [hostOps0, StableHlo.TRef.reshape, StableHlo.TRef.unary, StableHlo.TRef.toBuf, StableHlo.TRef.ofBuf, cast_eq]
  after_results_simp <;> rfl

/-- The values as the launch finds them: the experts' matrices one below the other. -/
theorem V_values (c : Dev nD) : V m c main_call0_v2
    = shapeCast S1024x1024 (m ((c : Thread nD τ).loc main_arg3)) shapeCasts_S8x128x1024_S1024x1024 := by
  show StableHlo.after (hostOps0 ++ []) _ _ = _
  rw [List.append_nil]
  simp only [hostOps0, StableHlo.TRef.reshape, StableHlo.TRef.unary, StableHlo.TRef.toBuf, StableHlo.TRef.ofBuf, cast_eq]
  after_results_simp <;> rfl

/-- A sequence of rows is the batch's rows one after the other. -/
theorem rows_at (A : Vec Ideal S2x2048x1024 .f32) (n : Fin 4096) (d : Fin 1024) :
    shapeCast S4096x1024 A shapeCasts_S2x2048x1024_S4096x1024 (ix2 n d)
      = A (ix3 ⟨n.val / 2048, by omega⟩ ⟨n.val % 2048, by omega⟩ d) := by
  pointwise

/-- The flattened values are the experts' rows one after the other. -/
theorem flat_values_at (A : Vec Ideal S8x128x1024 .f32) (q v : Fin 1024) :
    shapeCast S1024x1024 A shapeCasts_S8x128x1024_S1024x1024 (ix2 q v)
      = A (ix3 ⟨q.val / 128, by omega⟩ ⟨q.val % 128, by omega⟩ v) := by
  pointwise

/-- A block of the tokens at an index: grid point `t` takes rows `512 t` to `512 t + 511` of the sequence. -/
theorem tokens_block (c : Dev nD) (t : Fin cfg0.N) (r : Fin 512) (d : Fin 1024) (n : Fin 4096) (hn : n.val = 512 * t.val + r.val) :
    iblk m c 0 t (ix2 r d) = m ((c : Thread nD τ).loc main_arg0) (ix3 ⟨n.val / 2048, by omega⟩ ⟨n.val % 2048, by omega⟩ d) := by
  have idx : ∀ t : Fin grid0.N, win0_0.index t = ![t.val, 0] := by decide +kernel
  have e : (win0_0.blk t).view.emb (ix2 r d) = ix2 n d := by blk_ext [idx t]
  blk_simp [iblk]
  rw [V_tokens]
  refine (congrArg _ e).trans ?_
  exact rows_at _ n d

/-- The block of the transposed selectors at an index. -/
theorem selectors_block (c : Dev nD) (t : Fin cfg0.N) (d : Fin 1024) (e : Fin 8) :
    iblk m c 1 t (ix2 d e) = m ((c : Thread nD τ).loc main_arg1) (ix2 e d) := by
  have idx : ∀ t : Fin grid0.N, win0_1.index t = ![0, 0] := by decide +kernel
  have h : (win0_1.blk t).view.emb (ix2 d e) = ix2 d e := by blk_ext [idx t]
  blk_simp [iblk]
  rw [V_selectors]
  refine (congrArg _ h).trans ?_
  pointwise

/-- The block of the flattened values at an index. -/
theorem values_block (c : Dev nD) (t : Fin cfg0.N) (q v : Fin 1024) :
    iblk m c 3 t (ix2 q v) = m ((c : Thread nD τ).loc main_arg3) (ix3 ⟨q.val / 128, by omega⟩ ⟨q.val % 128, by omega⟩ v) := by
  have idx : ∀ t : Fin grid0.N, win0_3.index t = ![0, 0] := by decide +kernel
  have h : (win0_3.blk t).view.emb (ix2 q v) = ix2 q v := by blk_ext [idx t]
  blk_simp [iblk]
  rw [V_values]
  refine (congrArg _ h).trans ?_
  exact flat_values_at _ q v

end Cert.Proof

end
-- ==== Proof.KernelArray.lean ====
module

public import proofs.«01_k».proof.Proof.Tile
public import proofs.«01_k».proof.Proof.KernelBlock

@[expose] public section

set_option maxRecDepth 16384

noncomputable section

namespace Cert.Proof

open Idealize.ShloMosaic Idealize.ShloMosaic.TcCoe Idealize.SL.Sem Cert.KernelIdeal Cert.KernelIdeal.Gen

/-! # The kernel's output array -/

/-- A sum over the `1024` hidden units is the sum over the experts of the sums over their `128` units. -/
theorem sum_units (g : Fin 8 → Fin 128 → EReal) :
    ∑ q : Fin 1024, g ⟨q.val / 128, by omega⟩ ⟨q.val % 128, by omega⟩ = ∑ e, ∑ f, g e f :=
  Fin.sum_univ_mul_divNat_modNat 8 128 g

variable (m : (ℓ : Loc nD τ sig) → Buf (Elt Ideal) ℓ)

/-- The output block of grid point `t`, at row `r` and column `v`, is the layer at row `512 t + r`. -/
theorem block_at (c : Dev nD) (t : Fin cfg0.N) (r : Fin 512) (v : Fin 1024) (n : Fin 4096) (hn : n.val = 512 * t.val + r.val) :
    (outsAt0 m c t.val t.isLt).1 (ix2 r v)
      = layer (m ((c : Thread nD τ).loc main_arg0)) (m ((c : Thread nD τ).loc main_arg1))
          (m ((c : Thread nD τ).loc main_arg2)) (m ((c : Thread nD τ).loc main_arg3)) (ix2 n v) := by
  rw [out_at m c t]
  refine (tile_at _ _ _ _ r v).trans ?_
  have hx : (fun d => iblk m c 0 t (ix2 r d))
      = fun d => m ((c : Thread nD τ).loc main_arg0) (ix3 ⟨n.val / 2048, by omega⟩ ⟨n.val % 2048, by omega⟩ d) :=
    funext fun d => tokens_block m c t r d n hn
  have hE : (fun e d => iblk m c 1 t (ix2 d e)) = fun e d => m ((c : Thread nD τ).loc main_arg1) (ix2 e d) :=
    funext fun e => funext fun d => selectors_block m c t d e
  unfold layer layerAt
  rw [← sum_units]
  refine Finset.sum_congr rfl fun q _ => ?_
  refine congr (congrArg HMul.hMul (congr (congrArg HMul.hMul ?_) ?_)) (values_block m c t q v)
  · refine congrArg (max · 0) (Finset.sum_congr rfl fun d _ => ?_)
    exact congrArg (· * _) (congrFun hx d)
  · exact congrArg (fun s => gate s _) (congr (congrArg scores hx) hE)

/-- The kernel's output array after the run is the layer. -/
theorem array_at (c : Dev nD) :
    (dats m 0 c).arrAt 4 cfg0.N
      = layer (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have idx : ∀ t : Fin grid0.N, win0_4.index t = ![t.val, 0] := by decide +kernel
  have hN : t.val < 8 := lt_of_lt_of_eq t.isLt N_0
  have key : ∀ z : S512x1024.Idx, (outsAt0 m c t.val t.isLt).1 z
      = layer (m ((c : Thread nD τ).loc main_arg0)) (m ((c : Thread nD τ).loc main_arg1))
          (m ((c : Thread nD τ).loc main_arg2)) (m ((c : Thread nD τ).loc main_arg3)) ((win0_4.blk t).view.emb z) := by
    intro z
    have hz : z = ix2 (z 0) (z 1) := by funext a; fin_cases a <;> rfl
    have h0 : (z 0).val < 512 := (z 0).isLt
    have e : (win0_4.blk t).view.emb z = ix2 ⟨512 * t.val + (z 0).val, by omega⟩ (z 1) := by blk_ext [idx t]
    rw [e]
    refine Eq.trans ?_ (block_at m c t (z 0) (z 1) _ rfl)
    exact congrArg _ hz
  blk_simp
  rw [after0_4]
  exact key y

end Cert.Proof

end
-- ==== Proof.RefAt.lean ====
module

public import proofs.«01_k».proof.Proof.Gen.ReferenceIdeal.Run
public import proofs.«01_k».proof.Proof.Top2
public import Idealize.ShloMosaic.Lib.Pointwise
public import Idealize.ShloMosaic.Lib.ScatterToDense.RefScatter

@[expose] public section

set_option maxRecDepth 16384

noncomputable section

namespace Cert.Proof

open Idealize.ShloMosaic Idealize.ShloMosaic.TcCoe Idealize.SL.Sem Cert.ReferenceIdeal Cert.ReferenceIdeal.Gen

/-! # The reference at an index -/

/-- The scores of every token under every expert, as the reference computes them. -/
def refScores (X : FVec Ideal S4096x1024 .f32) (A1 : FVec Ideal S8x1024 .f32) : FVec Ideal S4096x8 .f32 :=
  Host.divf (broadcastInDim S4096x8 ![] bcast_S_S4096x8 (constant S_ .f32 0x3F800000#32))
    (addf (broadcastInDim S4096x8 ![] bcast_S_S4096x8 (constant S_ .f32 0x3F800000#32))
      (Host.exp (Host.negf (Host.dotGeneral dot_S4096x1024_S1024x8_S4096x8_1_0_0_1_n_n none X
        (transpose S1024x8 [1, 0] A1 transposes_S8x1024_S1024x8_1_0)))))

/-- They are the logistic function of the products. -/
theorem refScores_at (X : FVec Ideal S4096x1024 .f32) (A1 : FVec Ideal S8x1024 .f32) (n : Fin 4096) (e : Fin 8) :
    refScores X A1 (ix2 n e) = scores (fun d => X (ix2 n d)) (fun e d => A1 (ix2 e d)) e := by
  unfold scores
  pointwise [refScores]
  rfl

/-- The reference's table of index pairs, over the two chosen experts of every token. -/
def refPairs (I : IVec S4096x2 32) : IVec S4096x2x2 32 :=
  concatenate S4096x2x2 2 [⟨S4096x2x1, (broadcastInDim S4096x2x1 ![0, 1] bcast_S4096x2_S4096x2x1_0_1 (broadcastInDim S4096x2 ![0, 1] bcast_S4096x1_S4096x2_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x2x1, (broadcastInDim S4096x2x1 ![0, 1] bcast_S4096x2_S4096x2x1_0_1 (select (cmpi .slt I (broadcastInDim S4096x2 ![] bcast_S_S4096x2 (constantI S_ 32 0#32))) (addi I (broadcastInDim S4096x2 ![] bcast_S_S4096x2 (constantI S_ 32 8#32))) I))⟩] concatenates_S4096x2x1_S4096x2x1_S4096x2x2_d2

/-- The first component of a pair is the token. -/
theorem refPairs_tok (I : IVec S4096x2 32) (n : Fin 4096) (k : Fin 2) :
    refPairs I (ix3 n k 0) = BitVec.ofNat 32 n.val := by
  pointwise [refPairs]
  exact Routing.wrap_of_lt _ _ (by rw [BitVec.toNat_ofNat]; have := n.isLt; omega)

/-- The second component of a pair is the word of the expert, where the word is below `8`. -/
theorem refPairs_word (I : IVec S4096x2 32) (n : Fin 4096) (k : Fin 2) (h : (I (ix2 n k)).toNat < 8) :
    refPairs I (ix3 n k 1) = I (ix2 n k) := by
  pointwise [refPairs]
  exact Routing.wrap_of_lt _ _ (by omega)

/-- Moving along the second axis of a pair of coordinates replaces the second. -/
theorem along_ix2 (n : Fin 4096) (k e : Fin 8) : Shape.Idx.along (s := S4096x8) (ix2 n k) 1 e = ix2 n e := by
  funext a
  fin_cases a
  · exact Function.update_of_ne (by decide) _ _
  · exact Function.update_self _ _ _

/-- The order of a descending sort of one token's scores. -/
theorem sort_row (x : FVec Ideal S4096x8 .f32) (n : Fin 4096) (k i : Fin 8) :
    sortedFrom (fun a b : Fin 8 => FloatOps.cmpfTotal (F := Ideal) CmpDirection.gt
        (x (Shape.Idx.along (s := S4096x8) (ix2 n k) 1 a)) (x (Shape.Idx.along (s := S4096x8) (ix2 n k) 1 b)) == 1#1) i
      = pick (fun e => x (ix2 n e)) i := by
  unfold pick
  refine congrArg (fun R => sortedFrom R i) (funext fun a => funext fun b => ?_)
  rw [along_ix2, along_ix2]
  show (BitVec.ofBool (decide (x (ix2 n b) < x (ix2 n a))) == 1#1) = _
  by_cases h : x (ix2 n b) < x (ix2 n a)
  · rw [decide_eq_true h]; rfl
  · rw [decide_eq_false h]; rfl

/-- The values of the two greatest scores. -/
theorem topk_val (x : FVec Ideal S4096x8 .f32) (n : Fin 4096) (k : Fin 2) :
    (Host.topK S4096x2 1 (FloatOps.cmpfTotal (F := Ideal) .gt) x sliceFits_S4096x8_S4096x2).1 (ix2 n k)
      = x (ix2 n (pick (fun e => x (ix2 n e)) ⟨k.val, by omega⟩)) := by
  unfold Host.topK Host.sort2
  pointwise
  rw [sort_row, along_ix2]

/-- The words of the experts that hold them. -/
theorem topk_idx (x : FVec Ideal S4096x8 .f32) (n : Fin 4096) (k : Fin 2) :
    (Host.topK S4096x2 1 (FloatOps.cmpfTotal (F := Ideal) .gt) x sliceFits_S4096x8_S4096x2).2 (ix2 n k)
      = BitVec.ofNat 32 (pick (fun e => x (ix2 n e)) ⟨k.val, by omega⟩).val := by
  unfold Host.topK Host.sort2
  pointwise
  rw [sort_row, along_ix2]
  rfl

/-- The reference's dense gate, over the scores of all tokens. -/
def refGate (x : FVec Ideal S4096x8 .f32) : FVec Ideal S4096x8 .f32 :=
  Host.scatter scatter_S4096x8_S4096x2x2_S4096x2_n_01_01_2 (fun _ b => b)
    (broadcastInDim S4096x8 ![] bcast_S_S4096x8 (constant S_ .f32 0x00000000#32))
    (refPairs (Host.topK S4096x2 1 (FloatOps.cmpfTotal (F := Ideal) .gt) x sliceFits_S4096x8_S4096x2).2)
    (Host.topK S4096x2 1 (FloatOps.cmpfTotal (F := Ideal) .gt) x sliceFits_S4096x8_S4096x2).1

/-- It keeps a token's two greatest scores and is zero elsewhere. -/
theorem refGate_at (x : FVec Ideal S4096x8 .f32) (n : Fin 4096) (e : Fin 8) :
    refGate x (ix2 n e) = gate (fun e => x (ix2 n e)) e := by
  unfold refGate
  have hp (n : Fin 4096) (k : Fin 2) := (pick (fun e => x (ix2 n e)) ⟨k.val, by omega⟩).isLt
  have hw : ∀ (n : Fin 4096) (k : Fin 2), (BitVec.ofNat 32 (pick (fun e => x (ix2 n e)) ⟨k.val, by omega⟩).val).toNat < 8 := by
    intro n k
    rw [BitVec.toNat_ofNat]
    have := hp n k
    omega
  refine (ScatterToDense.scatter_eq_GS (T := 4096) (C := 8) (K := 2) scatter_S4096x8_S4096x2x2_S4096x2_n_01_01_2 rfl rfl rfl
    (by decide) (by decide) _ _ _
    (fun n k => BitVec.ofNat 32 (pick (fun e => x (ix2 n e)) (Fin.ofNat 8 k)).val)
    (fun n k => x (ix2 n (pick (fun e => x (ix2 n e)) (Fin.ofNat 8 k))))
    ?_ ?_ ?_ n e).trans ?_
  · exact fun i k => refPairs_tok _ i k
  · intro i k
    have hk : (⟨k.val, by omega⟩ : Fin 8) = Fin.ofNat 8 k.val := Fin.ext (Nat.mod_eq_of_lt (by omega : k.val < 8)).symm
    refine (refPairs_word _ i k ?_).trans ?_
    · rw [topk_idx]; exact hw i k
    · rw [topk_idx, hk]
  · intro i k
    have hk : (⟨k.val, by omega⟩ : Fin 8) = Fin.ofNat 8 k.val := Fin.ext (Nat.mod_eq_of_lt (by omega : k.val < 8)).symm
    exact (topk_val x i k).trans (by rw [hk])
  · rw [ScatterToDense.GS_succ, ScatterToDense.GS_succ, ScatterToDense.GS_zero]
    have hpk (i : Fin 8) : e.val = (BitVec.ofNat 32 (pick (fun e => x (ix2 n e)) i).val).toNat ↔ e = pick (fun e => x (ix2 n e)) i := by
      rw [BitVec.toNat_ofNat, Nat.mod_eq_of_lt (by have := (pick (fun e => x (ix2 n e)) i).isLt; omega)]
      exact Fin.ext_iff.symm
    unfold gate
    have h0 : Fin.ofNat 8 0 = (0 : Fin 8) := rfl
    have h1 : Fin.ofNat 8 1 = (1 : Fin 8) := rfl
    rw [h0, h1]
    simp only [hpk]
    by_cases c1 : e = pick (fun e => x (ix2 n e)) 1
    · rw [if_pos c1, if_pos (Or.inr c1), ← c1]
    · rw [if_neg c1]
      by_cases c0 : e = pick (fun e => x (ix2 n e)) 0
      · rw [if_pos c0, if_pos (Or.inl c0), ← c0]
      · rw [if_neg c0, if_neg fun h => h.elim c0 c1]
        pointwise

/-- The reference's last contraction at an index, over any gate `G`. -/
theorem out_ref (X : FVec Ideal S4096x1024 .f32) (A2 : FVec Ideal S8x1024x128 .f32) (A3 : FVec Ideal S8x128x1024 .f32)
    (G : FVec Ideal S4096x8 .f32) (n : Fin 4096) (v : Fin 1024) :
  (Host.dotGeneral dot_S4096x8x128_S8x128x1024_S4096x1024_12_01_0_2_n_n none (mulf (maximumf (Host.dotGeneral dot_S4096x1024_S8x1024x128_S4096x8x128_1_1_0_02_n_n none X A2) (broadcastInDim S4096x8x128 ![] bcast_S_S4096x8x128 (constant S_ .f32 0x00000000#32))) (broadcastInDim S4096x8x128 ![0, 1, 2] bcast_S4096x8x1_S4096x8x128_0_1_2 (broadcastInDim S4096x8x1 ![0, 1] bcast_S4096x8_S4096x8x1_0_1 G))) A3) (ix2 n v)
    = ∑ e : Fin 8, ∑ f : Fin 128, max (∑ d : Fin 1024, X (ix2 n d) * A2 (ix3 e d f)) 0 * G (ix2 n e) * A3 (ix3 e f v) := by
  pointwise

/-- The reference's result before its last reshape is the layer. -/
theorem ref_layer (A0 : FVec Ideal S2x2048x1024 .f32) (A1 : FVec Ideal S8x1024 .f32) (A2 : FVec Ideal S8x1024x128 .f32)
    (A3 : FVec Ideal S8x128x1024 .f32) :
  (Host.dotGeneral dot_S4096x8x128_S8x128x1024_S4096x1024_12_01_0_2_n_n none (mulf (maximumf (Host.dotGeneral dot_S4096x1024_S8x1024x128_S4096x8x128_1_1_0_02_n_n none (shapeCast _ A0 shapeCasts_S2x2048x1024_S4096x1024) A2) (broadcastInDim S4096x8x128 ![] bcast_S_S4096x8x128 (constant S_ .f32 0x00000000#32))) (broadcastInDim S4096x8x128 ![0, 1, 2] bcast_S4096x8x1_S4096x8x128_0_1_2 (broadcastInDim S4096x8x1 ![0, 1] bcast_S4096x8_S4096x8x1_0_1 (refGate (refScores (shapeCast _ A0 shapeCasts_S2x2048x1024_S4096x1024) A1))))) A3)
    = layer A0 A1 A2 A3 := by
  have hX : ∀ (n : Fin 4096) (d : Fin 1024), shapeCast S4096x1024 A0 shapeCasts_S2x2048x1024_S4096x1024 (ix2 n d)
      = A0 (ix3 ⟨n.val / 2048, by omega⟩ ⟨n.val % 2048, by omega⟩ d) := by
    intro n d
    pointwise
  funext i
  obtain ⟨n, v, rfl⟩ : ∃ (n : Fin 4096) (v : Fin 1024), i = ix2 n v := ⟨i 0, i 1, by funext a; fin_cases a <;> rfl⟩
  rw [out_ref]
  unfold layer layerAt
  refine Finset.sum_congr rfl fun e _ => Finset.sum_congr rfl fun f _ => ?_
  rw [refGate_at]
  have hs : (fun e => refScores (shapeCast S4096x1024 A0 shapeCasts_S2x2048x1024_S4096x1024) A1 (ix2 n e))
      = scores (fun d => A0 (ix3 ⟨n.val / 2048, by omega⟩ ⟨n.val % 2048, by omega⟩ d)) fun e d => A1 (ix2 e d) := by
    funext e
    rw [refScores_at]
    exact congrArg (fun x => scores x _ e) (funext fun d => hX n d)
  rw [hs]
  simp only [hX]
  rfl

end Cert.Proof

end
-- ==== Proof.Algebraic.lean ====
/- The value claim: over the extended reals the kernel and the reference, started on equal arguments, end with the
   same result. Both are `layer` of the arguments: the kernel by KernelArray.lean, the reference by RefAt.lean. -/
module

public import proofs.«01_k».proof.Defs
public import proofs.«01_k».proof.Proof.KernelArray
public import proofs.«01_k».proof.Proof.RefAt
public import proofs.«01_k».proof.Proof.Gen.ReferenceIdeal.Run
public import proofs.«01_k».proof.Proof.Gen.Pre_no_tie
public import Idealize.ShloMosaic.Lib.Claim

@[expose] public section

set_option maxRecDepth 16384

noncomputable section

namespace Cert.Proof

open Idealize.ShloMosaic Idealize.ShloMosaic.TcCoe Idealize.SL.Sem

section Kernel

open Cert.KernelIdeal Cert.KernelIdeal.Gen

variable (m : (ℓ : Loc nD τ sig) → Buf (Elt Ideal) ℓ)

/-- The result both programs end with: the layer's rows, cut back into the two batches. -/
def result (c : Dev nD) : Buf (Elt Ideal) ((c.tc : Thread nD τ).loc main_v0) :=
  shapeCast S2x2048x1024 (layer (m ((c.tc : Thread nD τ).loc main_arg0)) (m ((c.tc : Thread nD τ).loc main_arg1))
    (m ((c.tc : Thread nD τ).loc main_arg2)) (m ((c.tc : Thread nD τ).loc main_arg3)))
    shapeCasts_S4096x1024_S2x2048x1024

/-- The kernel program's result is the layer's. -/
theorem kernel_result (c : Dev nD) :
    Pipeline.afterTail₀ cfgs (dats m) 0 (V0 m) [hostOps1] c main_v0 = result m c := by
  have e : Pipeline.withArrays (cfgs 0).spec c (V0 m c) (fun w => (dats m 0 c).arrAt w (cfgs 0).N)
      (Proc.devRef .tc main_call0_v3) = (dats m 0 c).arrAt 4 cfg0.N :=
    Pipeline.withArrays_arr (cfgs 0).spec launch0.win.arr_inj c (V0 m c) (fun w => (dats m 0 c).arrAt w (cfgs 0).N) 4
  unfold result
  rw [← array_at m c]
  refine Eq.trans ?_ (congrArg (fun x => shapeCast S2x2048x1024 x shapeCasts_S4096x1024_S2x2048x1024) e)
  show StableHlo.after (hostOps1 ++ []) _ _ = _
  rw [List.append_nil]
  simp only [hostOps1, StableHlo.TRef.reshape, StableHlo.TRef.toBuf, StableHlo.TRef.ofBuf, cast_eq]
  after_results_simp <;> rfl

end Kernel

/-- Over the extended reals the kernel and the reference, started on equal arguments without tied scores, both run to
    their end, leave their arguments as they were and end with equal results. -/
theorem algebraic : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' _ hagree
  refine ⟨result m, ?_, ?_⟩
  · exact (θ_run Cert.KernelIdeal.defs _ _).mono
      (fun r h c => ⟨((h.1 c).2 Cert.KernelIdeal.main_v0 (Pipeline.mem_restRefs_of _ (by decide) (by decide))).trans
        (kernel_result m c), h.2 c⟩)
      (θ_run_and (Cert.KernelIdeal.Gen.run_main m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    obtain ⟨e0, e1, e2, e3⟩ := hagree c
    rw [e0, e1, e2, e3]
    exact congrArg (fun x => shapeCast Cert.ReferenceIdeal.S2x2048x1024 x
      Cert.ReferenceIdeal.Gen.shapeCasts_S4096x1024_S2x2048x1024) (ref_layer _ _ _ _)

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Pre_no_tie.Gen.facts, frame_kernel, frame_kernel_no_tie, frame_ideal, frame_reference, frame_reference_no_tie,
  trivial, algebraic⟩

end Cert.Proof

end
